-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S416x512 Cert.KernelIdeal.S208x512
  ∧ IdealRules.bf16_pair.Statement Cert.KernelIdeal.S1x416x512 Cert.KernelIdeal.S1x208x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x13312 : Shape := ⟨3, ![192, 1, 13312]⟩
abbrev S16384x6656 : Shape := ⟨2, ![16384, 6656]⟩
abbrev S16384x416 : Shape := ⟨2, ![16384, 416]⟩
abbrev S192x416x2x16 : Shape := ⟨4, ![192, 416, 2, 16]⟩
abbrev S192x416x16x2 : Shape := ⟨4, ![192, 416, 16, 2]⟩
abbrev S192x13312 : Shape := ⟨2, ![192, 13312]⟩
abbrev S192x16384 : Shape := ⟨2, ![192, 16384]⟩
abbrev S512x6656 : Shape := ⟨2, ![512, 6656]⟩
abbrev S512x416 : Shape := ⟨2, ![512, 416]⟩
abbrev S192x512 : Shape := ⟨2, ![192, 512]⟩
abbrev S2x416x512 : Shape := ⟨3, ![2, 416, 512]⟩
abbrev S416x512 : Shape := ⟨2, ![416, 512]⟩
abbrev S208x512 : Shape := ⟨2, ![208, 512]⟩
abbrev S2x208x512 : Shape := ⟨3, ![2, 208, 512]⟩
abbrev S1x208x512 : Shape := ⟨3, ![1, 208, 512]⟩
abbrev S1x416x512 : Shape := ⟨3, ![1, 416, 512]⟩
abbrev S512x128 : Shape := ⟨2, ![512, 128]⟩
abbrev S128x512 : Shape := ⟨2, ![128, 512]⟩
abbrev S32x512 : Shape := ⟨2, ![32, 512]⟩
abbrev S32x8x512 : Shape := ⟨3, ![32, 8, 512]⟩
abbrev S32x1x512 : Shape := ⟨3, ![32, 1, 512]⟩
abbrev S256x512 : Shape := ⟨2, ![256, 512]⟩
abbrev S1x1x512 : Shape := ⟨3, ![1, 1, 512]⟩
abbrev S1x512 : Shape := ⟨2, ![1, 512]⟩
abbrev S192x256 : Shape := ⟨2, ![192, 256]⟩

abbrev nBuf : Space → Nat
  | .hbm => 7
  | .vmem => 8
  | .smem => 0
  | _ => 0

abbrev bufTy : (tb : Table) → Fin (tcTables nBuf tb) → BufTy
  | .hbm, ⟨0, _⟩ => ⟨S192x1x13312, .bf16⟩
  | .hbm, ⟨1, _⟩ => ⟨S16384x6656, .i8⟩
  | .hbm, ⟨2, _⟩ => ⟨S16384x416, .bf16⟩
  | .hbm, ⟨3, _⟩ => ⟨S192x416x2x16, .bf16⟩
  | .hbm, ⟨4, _⟩ => ⟨S192x416x16x2, .bf16⟩
  | .hbm, ⟨5, _⟩ => ⟨S192x13312, .bf16⟩
  | .hbm, ⟨6, _⟩ => ⟨S192x16384, .bf16⟩
  | .local _ .vmem, ⟨0, _⟩ => ⟨S192x13312, .bf16⟩
  | .local _ .vmem, ⟨1, _⟩ => ⟨S512x6656, .i8⟩
  | .local _ .vmem, ⟨2, _⟩ => ⟨S512x6656, .i8⟩
  | .local _ .vmem, ⟨3, _⟩ => ⟨S512x416, .bf16⟩
  | .local _ .vmem, ⟨4, _⟩ => ⟨S512x416, .bf16⟩
  | .local _ .vmem, ⟨5, _⟩ => ⟨S192x512, .bf16⟩
  | .local _ .vmem, ⟨6, _⟩ => ⟨S192x512, .bf16⟩
  | .local _ .vmem, ⟨7, _⟩ => ⟨S2x416x512, .bf16⟩
  | _, _ => ⟨S192x1x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x13312 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x6656 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x416 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S192x1x13312 : Shape := ⟨3, ![192, 1, 13312]⟩
abbrev S16384x6656 : Shape := ⟨2, ![16384, 6656]⟩
abbrev S16384x416 : Shape := ⟨2, ![16384, 416]⟩
abbrev S16384x416x16 : Shape := ⟨3, ![16384, 416, 16]⟩
abbrev S_ : Shape := ⟨0, ![]⟩
abbrev S16384x416x1 : Shape := ⟨3, ![16384, 416, 1]⟩
abbrev S192x1x416x32 : Shape := ⟨4, ![192, 1, 416, 32]⟩
abbrev S192x1x416x16 : Shape := ⟨4, ![192, 1, 416, 16]⟩
abbrev S192x1x16384 : Shape := ⟨3, ![192, 1, 16384]⟩
abbrev S192x16384 : Shape := ⟨2, ![192, 16384]⟩

abbrev nBuf : Space → Nat
  | .hbm => 33
  | .vmem => 0
  | .smem => 0
  | _ => 0

abbrev bufTy : (tb : Table) → Fin (tcTables nBuf tb) → BufTy
  | .hbm, ⟨0, _⟩ => ⟨S192x1x13312, .bf16⟩
  | .hbm, ⟨1, _⟩ => ⟨S16384x6656, .i8⟩
  | .hbm, ⟨2, _⟩ => ⟨S16384x416, .bf16⟩
  | .hbm, ⟨3, _⟩ => ⟨S16384x416x16, .i8⟩
  | .hbm, ⟨4, _⟩ => ⟨S16384x416x16, .i32⟩
  | .hbm, ⟨5, _⟩ => ⟨S_, .i32⟩
  | .hbm, ⟨6, _⟩ => ⟨S16384x416x16, .i32⟩
  | .hbm, ⟨7, _⟩ => ⟨S16384x416x16, .i32⟩
  | .hbm, ⟨8, _⟩ => ⟨S16384x416x16, .bf16⟩
  | .hbm, ⟨9, _⟩ => ⟨S_, .bf16⟩
  | .hbm, ⟨10, _⟩ => ⟨S16384x416x16, .bf16⟩
  | .hbm, ⟨11, _⟩ => ⟨S16384x416x16, .bf16⟩
  | .hbm, ⟨12, _⟩ => ⟨S16384x416x1, .bf16⟩
  | .hbm, ⟨13, _⟩ => ⟨S16384x416x16, .bf16⟩
  | .hbm, ⟨14, _⟩ => ⟨S16384x416x16, .bf16⟩
  | .hbm, ⟨15, _⟩ => ⟨S_, .i32⟩
  | .hbm, ⟨16, _⟩ => ⟨S16384x416x16, .i32⟩
  | .hbm, ⟨17, _⟩ => ⟨S16384x416x16, .i32⟩
  | .hbm, ⟨18, _⟩ => ⟨S16384x416x16, .bf16⟩
  | .hbm, ⟨19, _⟩ => ⟨S_, .bf16⟩
  | .hbm, ⟨20, _⟩ => ⟨S16384x416x16, .bf16⟩
  | .hbm, ⟨21, _⟩ => ⟨S16384x416x16, .bf16⟩
  | .hbm, ⟨22, _⟩ => ⟨S16384x416x1, .bf16⟩
  | .hbm, ⟨23, _⟩ => ⟨S16384x416x16, .bf16⟩
  | .hbm, ⟨24, _⟩ => ⟨S16384x416x16, .bf16⟩
  | .hbm, ⟨25, _⟩ => ⟨S192x1x416x32, .bf16⟩
  | .hbm, ⟨26, _⟩ => ⟨S192x1x416x16, .bf16⟩
  | .hbm, ⟨27, _⟩ => ⟨S192x1x416x16, .bf16⟩
  | .hbm, ⟨28, _⟩ => ⟨S192x1x16384, .f32⟩
  | .hbm, ⟨29, _⟩ => ⟨S192x1x16384, .f32⟩
  | .hbm, ⟨30, _⟩ => ⟨S192x1x16384, .f32⟩
  | .hbm, ⟨31, _⟩ => ⟨S192x1x16384, .bf16⟩
  | .hbm, ⟨32, _⟩ => ⟨S192x16384, .bf16⟩
  | _, _ => ⟨S192x1x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.Nibble.lean ====
/-
  One signed code: what four bits of a packed byte stand for, as the kernel takes it out of a 32-bit word and as the
  reference takes it out of the byte.
-/
module

public import Idealize.ShloMosaic.Lib.Pointwise
public import Idealize.ShloMosaic.Lib.IdealHost

@[expose] public section

noncomputable section

namespace Cert.KernelIdeal.Tile

open Idealize.ShloMosaic

/-- The signed code in nibble `h` (0 the low one, 1 the high one) of a byte: the nibble less eight. -/
def nib (b : BitVec 8) (h : ℕ) : ℤ := ((b.toNat / 16 ^ h % 16 : ℕ) : ℤ) - 8

/-- A nibble with its top bit flipped, read as a four-bit signed number, is the nibble less eight. -/
theorem flip_toInt : ∀ (h : Fin 2) (b : BitVec 8),
    ((b >>> (4 * h.val)).setWidth 4 ^^^ 8#4).toInt = nib b h.val := by
  unfold nib
  decide +kernel

/-- Nibble `p` of a word whose every nibble has its top bit flipped, moved to the top of the word, moved back with its
sign and cut to four bits, is the flipped nibble of the byte it lies in. -/
theorem word_nibble (w : BitVec 32) (b : BitVec 8) (p : Fin 8)
    (hb : ∀ i : Fin 8, w.getLsbD (8 * (p.val / 2) + i.val) = b.getLsbD i.val) :
    BitVec.setWidth 4 (IntOp.shrsi ArithUnit.vector
        (IntOp.shli ArithUnit.vector (IntOp.xori w 2290649224#32)
          (IntOp.subi (28#32) (IntOp.shli ArithUnit.vector (BitVec.ofNat 32 p.val) 2#32)))
        28#32)
      = (b >>> (4 * (p.val % 2))).setWidth 4 ^^^ 8#4 := by
  have hs : IntOp.subi (28#32) (IntOp.shli ArithUnit.vector (BitVec.ofNat 32 p.val) 2#32) = BitVec.ofNat 32 (28 - 4 * p.val) := by
    clear hb; revert p; decide
  rw [hs]
  have h28 : (BitVec.ofNat 32 (28 - 4 * p.val)).toNat = 28 - 4 * p.val := by
    clear hs hb; revert p; decide
  unfold IntOp.shrsi IntOp.shli IntOp.xori
  rw [if_pos (by decide), if_pos (by rw [h28]; omega)]
  apply BitVec.eq_of_getLsbD_eq
  intro i hi
  have e : ∀ q : Fin 8, ∀ j : Fin 4, (2290649224#32 : BitVec 32).getLsbD (4 * q.val + j.val) = (8#4 : BitVec 4).getLsbD j.val := by decide
  have hm : 28 + i - (28 - 4 * p.val) = 4 * p.val + i := by omega
  have hb' := hb ⟨4 * (p.val % 2) + i, by omega⟩
  have hw : 8 * (p.val / 2) + (4 * (p.val % 2) + i) = 4 * p.val + i := by omega
  simp only [hw] at hb'
  have e' := e p ⟨i, hi⟩
  simp only at e'
  simp only [BitVec.getLsbD_setWidth, BitVec.getLsbD_xor, BitVec.sshiftRight_eq', BitVec.getLsbD_sshiftRight,
    BitVec.shiftLeft_eq', BitVec.getLsbD_shiftLeft, BitVec.getLsbD_ushiftRight, h28, show (28#32 : BitVec 32).toNat = 28 from rfl,
    hm, hb', e', hi, show ¬ (32 ≤ i) by omega, show 28 + i < 32 by omega, show ¬ (28 + i < 28 - 4 * p.val) by omega,
    decide_true, decide_false, Bool.true_and, Bool.not_false, if_true, not_false_iff]

/-- The kernel's reading of one nibble: the code of nibble `p % 2` of the byte that holds nibble `p` of the word. -/
theorem word_code (w : BitVec 32) (b : BitVec 8) (p : Fin 8)
    (hb : ∀ i : Fin 8, w.getLsbD (8 * (p.val / 2) + i.val) = b.getLsbD i.val) :
    (FloatOps.sitofp (F := Ideal) FTy.bf16 (BitVec.setWidth 4 (IntOp.shrsi ArithUnit.vector
        (IntOp.shli ArithUnit.vector (IntOp.xori w 2290649224#32)
          (IntOp.subi (28#32) (IntOp.shli ArithUnit.vector (BitVec.ofNat 32 p.val) 2#32)))
        28#32)) : EReal)
      = ((nib b (p.val % 2) : ℝ) : EReal) := by
  rw [word_nibble w b p hb]
  show ((((b >>> (4 * (p.val % 2))).setWidth 4 ^^^ 8#4).toInt : ℝ) : EReal) = _
  rw [flip_toInt ⟨p.val % 2, by omega⟩ b]

/-- The zero point of the reference is eight. -/
theorem ofBits_eight : Ideal.ofBits .bf16 0x4100#16 = ((8 : ℝ) : EReal) := by
  simp [Ideal.ofBits, Ideal.ieee]
  rw [← EReal.coe_mul]
  norm_num

/-- The reference's reading of a low nibble. -/
theorem low_code (b : BitVec 8) :
    (FloatOps.sitofp (F := Ideal) FTy.bf16 (IntOp.andi (b.setWidth 32) 15#32) : EReal) - Ideal.ofBits .bf16 0x4100#16
      = ((nib b 0 : ℝ) : EReal) := by
  have h : (IntOp.andi (b.setWidth 32) 15#32).toInt - 8 = nib b 0 := by
    revert b; unfold nib; decide +kernel
  rw [ofBits_eight, ← h]
  show (((IntOp.andi (b.setWidth 32) 15#32).toInt : ℝ) : EReal) - _ = _
  rw [← EReal.coe_sub]; push_cast; rfl

/-- The reference's reading of a high nibble. -/
theorem high_code (b : BitVec 8) :
    (FloatOps.sitofp (F := Ideal) FTy.bf16 (IntOp.shrsi ArithUnit.host (b.setWidth 32) 4#32) : EReal) - Ideal.ofBits .bf16 0x4100#16
      = ((nib b 1 : ℝ) : EReal) := by
  have h : (IntOp.shrsi ArithUnit.host (b.setWidth 32) 4#32).toInt - 8 = nib b 1 := by
    have e : IntOp.shrsi ArithUnit.host (b.setWidth 32) 4#32 = (b.setWidth 32).sshiftRight' 4#32 := by
      unfold IntOp.shrsi; rw [if_pos (by decide)]
    rw [e]; revert b; unfold nib; decide +kernel
  rw [ofBits_eight, ← h]
  show (((IntOp.shrsi ArithUnit.host (b.setWidth 32) 4#32).toInt : ℝ) : EReal) - _ = _
  rw [← EReal.coe_sub]; push_cast; rfl

end Cert.KernelIdeal.Tile

end
-- ==== Proof.Spec.lean ====
/-
  The function that both programs compute: a product with 4-bit weights, written over groups of 32 weights.
-/
module

public import proofs.«01_k».proof.Proof.Nibble
public import Idealize.ShloMosaic.Lib.Pointwise.IndexBridge
public import Idealize.ShloMosaic.Lib.Pipeline.ValueKit

@[expose] public section

noncomputable section

namespace Cert.Spec

open Idealize.ShloMosaic Cert.KernelIdeal.Tile

/-- Entry `(r, o)` of the result: over the 416 groups of 32 and the 16 bytes of a group, the low nibble's code times the
group's scale against the group's first 16 activations, plus the high nibble's against its last 16. -/
def out (x : Vec Ideal (⟨3, ![192, 1, 13312]⟩ : Shape) .bf16) (w : Vec Ideal (⟨2, ![16384, 6656]⟩ : Shape) .i8)
    (s : Vec Ideal (⟨2, ![16384, 416]⟩ : Shape) .bf16) (r : Fin 192) (o : Fin 16384) : EReal :=
  (∑ g : Fin 416, ∑ j : Fin 16, x (ix3 r 0 ⟨32 * g.val + j.val, by omega⟩)
    * (((nib (w (ix2 o ⟨16 * g.val + j.val, by omega⟩)) 0 : ℝ) : EReal) * s (ix2 o g)))
  + ∑ g : Fin 416, ∑ j : Fin 16, x (ix3 r 0 ⟨32 * g.val + (16 + j.val), by omega⟩)
    * (((nib (w (ix2 o ⟨16 * g.val + j.val, by omega⟩)) 1 : ℝ) : EReal) * s (ix2 o g))

/-- A sum over 52 tiles of 256 terms each is the sum over 416 groups and 16 pairs of neighbouring terms, the even terms
and the odd terms summed apart. -/
theorem regroup (K : Fin 13312 → EReal) (term : ℕ → EReal)
    (ht : ∀ (n : ℕ) (h : n < 52), term n = ∑ q : Fin 256, K ⟨256 * n + q.val, by omega⟩) :
    ∑ n ∈ Finset.range 52, term n
      = (∑ g : Fin 416, ∑ j : Fin 16, K ⟨32 * g.val + 2 * j.val, by omega⟩)
        + ∑ g : Fin 416, ∑ j : Fin 16, K ⟨32 * g.val + (2 * j.val + 1), by omega⟩ := by
  have h1 : ∑ n ∈ Finset.range 52, term n = ∑ l : Fin 13312, K l := by
    rw [Finset.sum_range]
    rw [Finset.sum_congr rfl fun (n : Fin 52) _ => ht n.val n.isLt]
    refine Fin.sum_mul_add_congr fun n q hl => ?_
    exact congrArg K (Fin.ext (by dsimp only; omega))
  have h2 : ∑ l : Fin 13312, K l = ∑ g : Fin 416, ∑ u : Fin 32, K ⟨32 * g.val + u.val, by omega⟩ := by
    refine (Fin.sum_mul_add_congr (F := fun (g : Fin 416) (u : Fin 32) => K ⟨32 * g.val + u.val, by omega⟩) fun g u hl => ?_).symm
    exact congrArg K (Fin.ext (by dsimp only; omega))
  have h3 : ∀ g : Fin 416, ∑ u : Fin 32, K ⟨32 * g.val + u.val, by omega⟩
      = (∑ j : Fin 16, K ⟨32 * g.val + 2 * j.val, by omega⟩) + ∑ j : Fin 16, K ⟨32 * g.val + (2 * j.val + 1), by omega⟩ := by
    intro g
    rw [← Finset.sum_add_distrib]
    refine (Fin.sum_mul_add_congr (S := 16) (n := 2)
      (F := fun (j : Fin 16) (h : Fin 2) => K ⟨32 * g.val + (2 * j.val + h.val), by omega⟩) fun j h hl => ?_).symm.trans ?_
    · exact congrArg K (Fin.ext (by dsimp only; omega))
    · exact Finset.sum_congr rfl fun j _ => by rw [Fin.sum_univ_two]; rfl
  rw [h1, h2, Finset.sum_congr rfl fun g _ => h3 g, Finset.sum_add_distrib]

end Cert.Spec

end
-- ==== Proof.Ref.lean ====
/-
  What the reference computes, read at an entry.
-/
module

public import proofs.«01_k».proof.Proof.Spec
public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Cert.KernelIdeal.Tile

variable {F : FTy → Type} [FloatOps F]

/-- The zero point eight, everywhere. -/
def eight : FVec F S16384x416x16 .bf16 := broadcastInDim S16384x416x16 ![] bcast_S_S16384x416x16 (constant S_ .bf16 0x4100#16)

/-- The packed bytes in groups of 16, each widened to 32 bits. -/
def bytes (w : Vec F S16384x6656 .i8) : IVec S16384x416x16 32 :=
  extui 32 (shapeCast S16384x416x16 w shapeCasts_S16384x6656_S16384x416x16) natLt_8_32

/-- Each group's scale, for each of the group's 16 bytes. -/
def scales (s : FVec F S16384x416 .bf16) : FVec F S16384x416x16 .bf16 :=
  broadcastInDim S16384x416x16 ![0, 1, 2] bcast_S16384x416x1_S16384x416x16_0_1_2
    (broadcastInDim S16384x416x1 ![0, 1] bcast_S16384x416_S16384x416x1_0_1 s)

/-- The weights of the low nibbles. -/
def low (w : Vec F S16384x6656 .i8) (s : FVec F S16384x416 .bf16) : FVec F S16384x416x16 .bf16 :=
  mulf (subf (sitofp .bf16 (andi (bytes w) (broadcastInDim S16384x416x16 ![] bcast_S_S16384x416x16 (constantI S_ 32 15#32)))) eight)
    (scales s)

/-- The weights of the high nibbles. -/
def high (w : Vec F S16384x6656 .i8) (s : FVec F S16384x416 .bf16) : FVec F S16384x416x16 .bf16 :=
  mulf (subf (sitofp .bf16 (Host.shrsi (bytes w) (broadcastInDim S16384x416x16 ![] bcast_S_S16384x416x16 (constantI S_ 32 4#32)))) eight)
    (scales s)

/-- The activations in groups of 32. -/
def groups (x : FVec F S192x1x13312 .bf16) : FVec F S192x1x416x32 .bf16 :=
  shapeCast S192x1x416x32 x shapeCasts_S192x1x13312_S192x1x416x32

/-- The first product plus the second. -/
def total (x : FVec F S192x1x13312 .bf16) (w : Vec F S16384x6656 .i8) (s : FVec F S16384x416 .bf16) : FVec F S192x1x16384 .f32 :=
  addf
    (Host.dotGeneral dot_S192x1x416x16_S16384x416x16_S192x1x16384_23_12_01_0_n_n none
      (extractStridedSlice S192x1x416x16 ![0, 0, 0, 0] (groups x) slices_S192x1x416x32_S192x1x416x16_0_0_0_0) (low w s))
    (Host.dotGeneral dot_S192x1x416x16_S16384x416x16_S192x1x16384_23_12_01_0_n_n none
      (extractStridedSlice S192x1x416x16 ![0, 0, 0, 16] (groups x) slices_S192x1x416x32_S192x1x416x16_0_0_0_16) (high w s))

/-- The reference's composed term, as a function of its three arguments. -/
def ref (x : FVec F S192x1x13312 .bf16) (w : Vec F S16384x6656 .i8) (s : FVec F S16384x416 .bf16) : FVec F S192x16384 .bf16 :=
  shapeCast S192x16384 (truncf .bf16 (total x w s) bitsLt_bf16_f32) shapeCasts_S192x1x16384_S192x16384

/-- A low weight: the code of the byte's low nibble times the group's scale. -/
theorem low_apply (w : Vec Ideal S16384x6656 .i8) (s : FVec Ideal S16384x416 .bf16) (o : Fin 16384) (g : Fin 416) (j : Fin 16) :
    (low w s (ix3 o g j) : EReal) = ((nib (w (ix2 o ⟨16 * g.val + j.val, by omega⟩)) 0 : ℝ) : EReal) * s (ix2 o g) := by
  rw [← low_code]
  pointwise [low, bytes, eight, scales]
  simp only [fun a => Nat.mul_comm a 16]

/-- A high weight: the code of the byte's high nibble times the group's scale. -/
theorem high_apply (w : Vec Ideal S16384x6656 .i8) (s : FVec Ideal S16384x416 .bf16) (o : Fin 16384) (g : Fin 416) (j : Fin 16) :
    (high w s (ix3 o g j) : EReal) = ((nib (w (ix2 o ⟨16 * g.val + j.val, by omega⟩)) 1 : ℝ) : EReal) * s (ix2 o g) := by
  rw [← high_code]
  pointwise [high, bytes, eight, scales]
  simp only [fun a => Nat.mul_comm a 16]

/-- The reference's entry `(r, o)` is the sum of the products over the low nibbles and over the high nibbles. -/
theorem ref_apply (x : FVec Ideal S192x1x13312 .bf16) (w : Vec Ideal S16384x6656 .i8) (s : FVec Ideal S16384x416 .bf16)
    (r : Fin 192) (o : Fin 16384) : (ref x w s (ix2 r o) : EReal) = Cert.Spec.out x w s r o := by
  pointwise [ref, total, groups, Cert.Spec.out]
  simp only [low_apply, high_apply]
  simp only [fun a => Nat.mul_comm a 32]

end Cert.ReferenceIdeal.Value

end
-- ==== Proof.Tile.lean ====
/-
  What one grid point of the kernel computes, as a recursion over its 52 tiles of 256 rows.

  The body of the kernel is unrolled: 52 times it takes 128 columns of packed bytes, unpacks them to a 256 × 512 tile of
  signed codes, multiplies every group of 32 rows by that group's row of scales, and adds the product with 256 columns of
  the activations to an accumulator. Here the unrolled text is written once, as `step`, and the accumulator after `n`
  tiles as `accAt n`; `pieces_eq` says that the body's one store is the accumulator after 52 tiles.
-/
module

public import proofs.«01_k».proof.Proof.Gen.KernelIdeal.Frame

@[expose] public section

set_option maxRecDepth 16384

noncomputable section

namespace Cert.KernelIdeal.Tile

open Cert.KernelIdeal Cert.KernelIdeal.Gen Idealize.ShloMosaic Idealize.ShloMosaic.TcCoe Idealize.SL.Sem

variable {F : FTy → Type} [FloatOps F]

/-- The rows `32 g … 32 g + 31` of a tile of codes lie in the tile. -/
theorem slices_group (g : Fin 8) : S256x512.Slices ![32 * g.val, 0] S32x512 := by
  revert g; decide

/-- One group of 32 rows of codes, each row multiplied by the group's row of scales. -/
def group (w : FVec F S256x512 .bf16) (g : Fin 8) (s : Vec F S1x1x512 .bf16) : FVec F S32x512 .bf16 :=
  mulf (extractStridedSlice S32x512 ![32 * g.val, 0] w (slices_group g))
    (broadcastTo S32x512 (shapeCast S1x512 (shapeCast S1x512 s shapeCasts_S1x1x512_S1x512) shapeCasts_S1x512_S1x512)
      broadcasts_S1x512_S32x512)

/-- A tile of weights: its eight scaled groups, stacked. -/
def weights (w : FVec F S256x512 .bf16) (s : Fin 8 → Vec F S1x1x512 .bf16) : FVec F S256x512 .bf16 :=
  concatenate S256x512 0 [⟨S32x512, group w ⟨0, by decide⟩ (s ⟨0, by decide⟩)⟩, ⟨S32x512, group w ⟨1, by decide⟩ (s ⟨1, by decide⟩)⟩,
    ⟨S32x512, group w ⟨2, by decide⟩ (s ⟨2, by decide⟩)⟩, ⟨S32x512, group w ⟨3, by decide⟩ (s ⟨3, by decide⟩)⟩,
    ⟨S32x512, group w ⟨4, by decide⟩ (s ⟨4, by decide⟩)⟩, ⟨S32x512, group w ⟨5, by decide⟩ (s ⟨5, by decide⟩)⟩,
    ⟨S32x512, group w ⟨6, by decide⟩ (s ⟨6, by decide⟩)⟩, ⟨S32x512, group w ⟨7, by decide⟩ (s ⟨7, by decide⟩)⟩]
    concatenates_S32x512_S32x512_S32x512_S32x512_S32x512_S32x512_S32x512_S32x512_S256x512_d0

/-- One tile: the accumulator plus the activations' columns times the tile of weights. -/
def step (x : Vec F S192x256 .bf16) (b : Vec F S512x128 .i8) (s : Fin 8 → Vec F S1x1x512 .bf16)
    (acc : FVec F S192x512 .f32) : FVec F S192x512 .f32 :=
  addf acc (matmul dot_S192x256_S256x512_S192x512_1_0_0_1_n_n none (shapeCast S192x256 x shapeCasts_S192x256_S192x256)
    (weights (k0_pay15 b) s) (constant S192x512 .f32 0x00000000#32))

/-- The accumulator after `n` tiles, from the tiles' loads. -/
def accAt (X : (n : ℕ) → n < 52 → Vec F S192x256 .bf16) (B : (n : ℕ) → n < 52 → Vec F S512x128 .i8)
    (S : (n : ℕ) → n < 52 → Fin 8 → Vec F S1x1x512 .bf16) : (n : ℕ) → n ≤ 52 → FVec F S192x512 .f32
  | 0, _ => k0_pay5
  | n + 1, h => step (X n h) (B n h) (S n h) (accAt X B S n (Nat.le_of_lt h))

/-- The activations' columns of tile `n` lie in the activations. -/
theorem inbX (n : ℕ) (h : n < 52) : ∀ a, (![0, 256 * n] : Fin 2 → Nat) a + S192x256.size a ≤ S192x13312.size a := by
  intro a
  match a with
  | ⟨0, _⟩ => exact (by decide : 0 + 192 ≤ 192)
  | ⟨1, _⟩ => show 256 * n + 256 ≤ 13312; omega

/-- The packed columns of tile `n` lie in the block of packed bytes. -/
theorem inbB (n : ℕ) (h : n < 52) : ∀ a, (![0, 128 * n] : Fin 2 → Nat) a + S512x128.size a ≤ S512x6656.size a := by
  intro a
  match a with
  | ⟨0, _⟩ => exact (by decide : 0 + 512 ≤ 512)
  | ⟨1, _⟩ => show 128 * n + 128 ≤ 6656; omega

/-- The row of group `g` of tile `n` lies in the buffer of scales. -/
theorem inbS (n : ℕ) (h : n < 52) (g : Fin 8) :
    ∀ a, (![(n * 8 + g.val) % 2, (n * 8 + g.val) / 2 * 2, 0] : Fin 3 → Nat) a + S1x1x512.size a ≤ S2x416x512.size a := by
  intro a
  have := g.isLt
  match a with
  | ⟨0, _⟩ => show (n * 8 + g.val) % 2 + 1 ≤ 2; omega
  | ⟨1, _⟩ => show (n * 8 + g.val) / 2 * 2 + 1 ≤ 416; omega
  | ⟨2, _⟩ => exact (by decide : 0 + 512 ≤ 512)

variable (c : Dev nD) (i : grid0.Coords) (arg1 : Memref sig .tc .vmem S192x13312 .bf16) (harg1 : arg1.IsWhole)
  (arg2 : Memref sig .tc .vmem S512x6656 .i8) (harg2 : arg2.IsWhole) (arg3 : Memref sig .tc .vmem S512x416 .bf16)
  (harg3 : arg3.IsWhole) (arg4 : Memref sig .tc .vmem S192x512 .bf16) (harg4 : arg4.IsWhole)
  (arg5 : Memref sig .tc .vmem S2x416x512 .bf16) (harg5 : arg5.IsWhole)
  (x0 : Vec F S192x13312 .bf16) (x1 : Vec F S512x6656 .i8) (x2 : Vec F S512x416 .bf16)

/-- The load of the activations' columns of tile `n`. -/
def loadX (n : ℕ) (h : n < 52) : Vec F S192x256 .bf16 :=
  View.readAt (Elt F) arg1.view (Rect.unit (s := S192x13312) ![0, 256 * n] S192x256.size (inbX n h)).toLoadRect (harg1.unread x0)

/-- The load of the packed columns of tile `n`. -/
def loadB (n : ℕ) (h : n < 52) : Vec F S512x128 .i8 :=
  View.readAt (Elt F) arg2.view (Rect.unit (s := S512x6656) ![0, 128 * n] S512x128.size (inbB n h)).toLoadRect (harg2.unread x1)

/-- The load of the scales of group `g` of tile `n`, from the buffer filled by the two stores before. -/
def loadS (n : ℕ) (h : n < 52) (g : Fin 8) : Vec F S1x1x512 .bf16 :=
  arg5.view.readCov (kernelRun0_A.sl.HS0_2 c arg3 harg3 x2)
    (Rect.unit (s := S2x416x512) ![(n * 8 + g.val) % 2, (n * 8 + g.val) / 2 * 2, 0] S1x1x512.size (inbS n h g)).toLoadRect

/-- The body's one store is the accumulator after its 52 tiles, converted to the result's format. -/
theorem pieces_eq :
    (kernelRun0_A c i arg1 harg1 arg2 harg2 arg3 harg3 arg4 harg4 arg5 harg5 x0 x1 x2).1
      = [⟨Rect.unit (s := S192x512) ![0, 0] ![192, 512] inb_S192x512_S192x512_0_0,
          truncf .bf16 (accAt (loadX arg1 harg1 x0) (loadB arg2 harg2 x1) (loadS c arg3 harg3 arg5 x2) 52 (Nat.le_refl 52))
            bitsLt_bf16_f32⟩] := by
  rfl

end Cert.KernelIdeal.Tile

end
-- ==== Proof.Codes.lean ====
/-
  The tile's arithmetic read at an element: the unpacked codes, the scaled weights, one step of the accumulator.
-/
module

public import proofs.«01_k».proof.Proof.Tile
public import proofs.«01_k».proof.Proof.Nibble
public import Idealize.ShloMosaic.Lib.BitcastFour
public import Idealize.ShloMosaic.Lib.Pointwise.IndexBridge

@[expose] public section

set_option maxRecDepth 16384

noncomputable section

namespace Cert.KernelIdeal.Tile

open Cert.KernelIdeal Cert.KernelIdeal.Gen Idealize.ShloMosaic Idealize.ShloMosaic.TcCoe Idealize.SL.Sem

/-- Row `q`, column `l` of the unpacked tile is the code in nibble `q % 2` of byte `q / 2` of output column `l`. -/
theorem codes_apply (b : Vec Ideal S512x128 .i8) (q : Fin 256) (l : Fin 512) :
    k0_pay15 (F := Ideal) b (ix2 q l) = ((nib (b (ix2 l ⟨q.val / 2, by omega⟩)) (q.val % 2) : ℝ) : EReal) := by
  pointwise [k0_pay15]
  rw [show q.val % 2 = q.val % 8 % 2 by omega]
  refine word_code _ _ ⟨q.val % 8, by omega⟩ fun i => ?_
  have hi := i.isLt
  rw [ix2_eq_valueIdx, bitcast_8_32_getLsbD_ix2 _ _ _ _ _ (by dsimp only; omega) ⟨q.val / 2, by omega⟩ (by dsimp only; omega),
    ← ix2_eq_valueIdx]
  have : (8 * (q.val % 8 / 2) + i.val) % 8 = i.val := by omega
  dsimp only
  rw [this]
  congr 1
  pointwise

/-- Row `q` of a tile of weights is row `q` of its codes times the scales of group `q / 32`. -/
theorem weights_apply (w : FVec Ideal S256x512 .bf16) (s : Fin 8 → Vec Ideal S1x1x512 .bf16) (q : Fin 256) (l : Fin 512) :
    weights w s (ix2 q l) = (w (ix2 q l) * s ⟨q.val / 32, by omega⟩ (ix3 0 0 l) : EReal) := by
  have key : ∀ (a : ℕ) (ha : a < 256) (g : Fin 8), a = q.val → g.val = q.val / 32 →
      (w (ix2 ⟨a, ha⟩ l) * s g (ix3 0 0 l) : EReal) = w (ix2 q l) * s ⟨q.val / 32, by omega⟩ (ix3 0 0 l) := by
    intro a ha g h1 h2
    subst h1
    rw [show g = ⟨q.val / 32, by omega⟩ from Fin.ext h2]
  pointwise [weights, group]
  have h0 : ((0 : Fin 8) : ℕ) = 0 := rfl
  have h1 : ((1 : Fin 8) : ℕ) = 1 := rfl
  have h2 : ((2 : Fin 8) : ℕ) = 2 := rfl
  have h3 : ((3 : Fin 8) : ℕ) = 3 := rfl
  have h4 : ((4 : Fin 8) : ℕ) = 4 := rfl
  have h5 : ((5 : Fin 8) : ℕ) = 5 := rfl
  have h6 : ((6 : Fin 8) : ℕ) = 6 := rfl
  have h7 : ((7 : Fin 8) : ℕ) = 7 := rfl
  split_ifs <;> refine key _ _ _ ?_ ?_ <;> first | rfl | omega

/-- One step of the accumulator at an element. -/
theorem step_apply (x : Vec Ideal S192x256 .bf16) (b : Vec Ideal S512x128 .i8) (s : Fin 8 → Vec Ideal S1x1x512 .bf16)
    (acc : FVec Ideal S192x512 .f32) (r : Fin 192) (l : Fin 512) :
    (step x b s acc (ix2 r l) : EReal) = acc (ix2 r l) + ∑ q : Fin 256, x (ix2 r q)
      * (((nib (b (ix2 l ⟨q.val / 2, by omega⟩)) (q.val % 2) : ℝ) : EReal) * s ⟨q.val / 32, by omega⟩ (ix3 0 0 l)) := by
  pointwise [step]
  simp only [weights_apply, codes_apply]

/-- The accumulator after `n` tiles at an element: the sum over the tiles of the sums over their 256 rows. -/
theorem accAt_apply (X : (n : ℕ) → n < 52 → Vec Ideal S192x256 .bf16) (B : (n : ℕ) → n < 52 → Vec Ideal S512x128 .i8)
    (S : (n : ℕ) → n < 52 → Fin 8 → Vec Ideal S1x1x512 .bf16) (r : Fin 192) (l : Fin 512)
    (term : ℕ → EReal)
    (ht : ∀ (n : ℕ) (h : n < 52), (∑ q : Fin 256, X n h (ix2 r q)
      * (((nib (B n h (ix2 l ⟨q.val / 2, by omega⟩)) (q.val % 2) : ℝ) : EReal) * S n h ⟨q.val / 32, by omega⟩ (ix3 0 0 l)) : EReal)
        = term n) (n : ℕ) (h : n ≤ 52) :
    (accAt X B S n h (ix2 r l) : EReal) = ∑ k ∈ Finset.range n, term k := by
  induction n with
  | zero =>
    rw [Finset.sum_range_zero]
    show (k0_pay5 (F := Ideal) (ix2 r l) : EReal) = 0
    pointwise [k0_pay5]
  | succ n ih =>
    rw [Finset.sum_range_succ, ← ih (Nat.le_of_lt h), ← ht n h]
    exact step_apply _ _ _ _ r l

end Cert.KernelIdeal.Tile

end
-- ==== Proof.Loads.lean ====
/-
  The loads of one tile read at an element, in terms of the three blocks a grid point holds.
-/
module

public import proofs.«01_k».proof.Proof.Codes
public import Idealize.ShloMosaic.Lib.WholeRead
public import Idealize.ShloMosaic.Lib.Pipeline.ValueKit

@[expose] public section

set_option maxRecDepth 16384

noncomputable section

namespace Cert.KernelIdeal.Tile

open Cert.KernelIdeal Cert.KernelIdeal.Gen Idealize.ShloMosaic Idealize.ShloMosaic.TcCoe Idealize.SL.Sem

variable (c : Dev nD) (arg1 : Memref sig .tc .vmem S192x13312 .bf16) (harg1 : arg1.IsWhole)
  (arg2 : Memref sig .tc .vmem S512x6656 .i8) (harg2 : arg2.IsWhole) (arg3 : Memref sig .tc .vmem S512x416 .bf16)
  (harg3 : arg3.IsWhole) (arg5 : Memref sig .tc .vmem S2x416x512 .bf16)
  (x0 : Vec Ideal S192x13312 .bf16) (x1 : Vec Ideal S512x6656 .i8) (x2 : Vec Ideal S512x416 .bf16)

/-- The activations of tile `n` are columns `256 n … 256 n + 255` of the block. -/
theorem loadX_apply (n : ℕ) (h : n < 52) (r : Fin 192) (q : Fin 256) :
    loadX arg1 harg1 x0 n h (ix2 r q) = x0 (ix2 r ⟨256 * n + q.val, by omega⟩) := by
  unfold loadX
  rw [View.readAt_eq_ld, harg1.read_unread]
  pointwise

/-- The packed bytes of tile `n` are columns `128 n … 128 n + 127` of the block. -/
theorem loadB_apply (n : ℕ) (h : n < 52) (l : Fin 512) (q : Fin 128) :
    loadB arg2 harg2 x1 n h (ix2 l q) = x1 (ix2 l ⟨128 * n + q.val, by omega⟩) := by
  unfold loadB
  rw [View.readAt_eq_ld, harg2.read_unread]
  pointwise

/-- What the first store puts into the buffer of scales: row `2 k` is the row of scales of group `2 k`. -/
theorem even_apply (s : Vec Ideal S512x416 .bf16) (k : Fin 416) (hk : k.val % 2 = 0) (l : Fin 512) :
    k0_pay3 (F := Ideal) s (ix3 0 k l) = s (ix2 l ⟨k.val, by omega⟩) := by
  pointwise [k0_pay3, k0_pay2]
  rw [if_pos hk]
  exact congrArg (fun a => s (ix2 l a)) (Fin.ext (by dsimp only; omega))

/-- What the second store puts into the buffer of scales: row `2 k` is the row of scales of group `2 k + 1`. -/
theorem odd_apply (s : Vec Ideal S512x416 .bf16) (k : Fin 416) (hk : k.val % 2 = 0) (l : Fin 512) :
    k0_pay4 (F := Ideal) s (ix3 0 k l) = s (ix2 l ⟨k.val + 1, by omega⟩) := by
  pointwise [k0_pay4, k0_pay2]
  rw [if_pos hk]
  exact congrArg (fun a => s (ix2 l a)) (Fin.ext (by dsimp only; omega))

/-- The whole block of scales, loaded. -/
theorem loadAll :
    View.readAt (Elt Ideal) arg3.view (Rect.unit (s := S512x416) ![0, 0] S512x416.size inb_S512x416_S512x416_0_0).toLoadRect
      (harg3.unread x2) = x2 := by
  rw [View.readAt_eq_ld, harg3.read_unread]
  exact View.ld_unit_lit _ _ (by decide)

/-- The scales of group `g` of tile `n` are column `8 n + g` of the block of scales. -/
theorem loadS_apply (n : ℕ) (h : n < 52) (g : Fin 8) (l : Fin 512) :
    loadS c arg3 harg3 arg5 x2 n h g (ix3 0 0 l) = x2 (ix2 l ⟨8 * n + g.val, by omega⟩) := by
  have hg := g.isLt
  unfold loadS
  rw [View.readCov_eq_canon']
  dsimp only [kernelRun0_A.sl.HS0_2]
  rw [loadAll arg3 harg3 x2]
  rcases Nat.mod_two_eq_zero_or_one (n * 8 + g.val) with hp | hp
  · have e : (Rect.unit (s := S2x416x512) ![(n * 8 + g.val) % 2, (n * 8 + g.val) / 2 * 2, 0] S1x1x512.size (inbS n h g)).idx (ix3 0 0 l)
        = (Rect.unit (s := S2x416x512) ![0, 0, 0] S1x416x512.size inb_S2x416x512_S1x416x512_0_0_0).emb
            (ix3 0 ⟨(n * 8 + g.val) / 2 * 2, by omega⟩ l) := by
      funext a; apply Fin.ext
      match a with
      | ⟨0, _⟩ => show (n * 8 + g.val) % 2 + 1 * 0 = 0 + 1 * 0; omega
      | ⟨1, _⟩ => show (n * 8 + g.val) / 2 * 2 + 1 * 0 = 0 + 1 * ((n * 8 + g.val) / 2 * 2); omega
      | ⟨2, _⟩ => show 0 + 1 * l.val = 0 + 1 * l.val; rfl
    refine (congrArg _ e).trans ?_
    rw [View.canon_cons_of_not_mem, View.canon_cons_emb, even_apply _ _ (by dsimp only; omega)]
    · exact congrArg (fun a => x2 (ix2 l a)) (Fin.ext (by dsimp only; omega))
    · rw [Rect.mem_set_unit]
      intro hm
      have := (hm ⟨0, by decide⟩).1
      exact absurd this (by show ¬ (1 ≤ 0 + 1 * 0); omega)
  · have e : (Rect.unit (s := S2x416x512) ![(n * 8 + g.val) % 2, (n * 8 + g.val) / 2 * 2, 0] S1x1x512.size (inbS n h g)).idx (ix3 0 0 l)
        = (Rect.unit (s := S2x416x512) ![1, 0, 0] S1x416x512.size inb_S2x416x512_S1x416x512_1_0_0).emb
            (ix3 0 ⟨(n * 8 + g.val) / 2 * 2, by omega⟩ l) := by
      funext a; apply Fin.ext
      match a with
      | ⟨0, _⟩ => show (n * 8 + g.val) % 2 + 1 * 0 = 1 + 1 * 0; omega
      | ⟨1, _⟩ => show (n * 8 + g.val) / 2 * 2 + 1 * 0 = 0 + 1 * ((n * 8 + g.val) / 2 * 2); omega
      | ⟨2, _⟩ => show 0 + 1 * l.val = 0 + 1 * l.val; rfl
    refine (congrArg _ e).trans ?_
    rw [View.canon_cons_emb, odd_apply _ _ (by dsimp only; omega)]
    exact congrArg (fun a => x2 (ix2 l a)) (Fin.ext (by dsimp only; omega))

end Cert.KernelIdeal.Tile

end
-- ==== Proof.Block.lean ====
/-
  The block that one grid point writes, read at an element; and the array of results.
-/
module

public import proofs.«01_k».proof.Proof.Loads
public import proofs.«01_k».proof.Proof.Spec
public import proofs.«01_k».proof.Proof.Gen.KernelIdeal.Value

@[expose] public section

set_option maxRecDepth 16384

noncomputable section

namespace Cert.KernelIdeal.Tile

open Cert.KernelIdeal Cert.KernelIdeal.Gen Idealize.ShloMosaic Idealize.ShloMosaic.TcCoe Idealize.SL.Sem

/-- One summand of a block's element: activation `p` times the code of nibble `p % 2` of byte `p / 2` times the scale of
group `p / 32`. -/
def summand (x0 : Vec Ideal S192x13312 .bf16) (x1 : Vec Ideal S512x6656 .i8) (x2 : Vec Ideal S512x416 .bf16)
    (r : Fin 192) (l : Fin 512) (p : Fin 13312) : EReal :=
  x0 (ix2 r p) * (((nib (x1 (ix2 l ⟨p.val / 2, by omega⟩)) (p.val % 2) : ℝ) : EReal) * x2 (ix2 l ⟨p.val / 32, by omega⟩))

/-- An element of the block a grid point writes: the even summands plus the odd ones. -/
theorem block_apply (c : Dev nD) (i : grid0.Coords) (arg1 : Memref sig .tc .vmem S192x13312 .bf16) (harg1 : arg1.IsWhole)
    (arg2 : Memref sig .tc .vmem S512x6656 .i8) (harg2 : arg2.IsWhole) (arg3 : Memref sig .tc .vmem S512x416 .bf16)
    (harg3 : arg3.IsWhole) (arg4 : Memref sig .tc .vmem S192x512 .bf16) (harg4 : arg4.IsWhole)
    (arg5 : Memref sig .tc .vmem S2x416x512 .bf16) (harg5 : arg5.IsWhole)
    (x0 : Vec Ideal S192x13312 .bf16) (x1 : Vec Ideal S512x6656 .i8) (x2 : Vec Ideal S512x416 .bf16) (r : Fin 192) (l : Fin 512) :
    (out0_A_3 c i arg1 harg1 arg2 harg2 arg3 harg3 arg4 harg4 arg5 harg5 x0 x1 x2 (ix2 r l) : EReal)
      = (∑ g : Fin 416, ∑ j : Fin 16, summand x0 x1 x2 r l ⟨32 * g.val + 2 * j.val, by omega⟩)
        + ∑ g : Fin 416, ∑ j : Fin 16, summand x0 x1 x2 r l ⟨32 * g.val + (2 * j.val + 1), by omega⟩ := by
  unfold out0_A_3
  rw [pieces_eq, View.read_writes_junk_eq_canon, View.canon_unit_zero (by funext a; fin_cases a <;> rfl)]
  refine Eq.trans ?_ (Cert.Spec.regroup (summand x0 x1 x2 r l)
    (fun n => if h : n < 52 then ∑ q : Fin 256, summand x0 x1 x2 r l ⟨256 * n + q.val, by omega⟩ else 0)
    fun n h => dif_pos h)
  refine accAt_apply _ _ _ r l _ (fun n h => ?_) 52 (Nat.le_refl 52)
  rw [dif_pos h]
  refine Finset.sum_congr rfl fun q _ => ?_
  rw [loadX_apply, loadB_apply, loadS_apply]
  unfold summand
  have e1 : (⟨128 * n + q.val / 2, by omega⟩ : Fin 6656) = ⟨(256 * n + q.val) / 2, by omega⟩ := Fin.ext (by dsimp only; omega)
  have e2 : (⟨8 * n + q.val / 32, by omega⟩ : Fin 416) = ⟨(256 * n + q.val) / 32, by omega⟩ := Fin.ext (by dsimp only; omega)
  have e3 : (256 * n + q.val) % 2 = q.val % 2 := by omega
  dsimp only
  rw [e1, e2, e3]

variable (m : (ℓ : Loc nD τ sig) → Buf (Elt Ideal) ℓ)

/-- The activations, the packed bytes and the scales, as given. -/
abbrev argX (c : Dev nD) : FVec Ideal S192x1x13312 .bf16 := m ((c.tc : Thread nD τ).loc main_arg0)
abbrev argW (c : Dev nD) : Vec Ideal S16384x6656 .i8 := m ((c.tc : Thread nD τ).loc main_arg1)
abbrev argS (c : Dev nD) : FVec Ideal S16384x416 .bf16 := m ((c.tc : Thread nD τ).loc main_arg2)

/-- The reordered activations: place `32 g + 2 j` of a row holds activation `32 g + j`. -/
theorem entry_even (c : Dev nD) (r : Fin 192) (g : Fin 416) (j : Fin 16) :
    V m c main_v2 (ix2 r ⟨32 * g.val + 2 * j.val, by omega⟩)
      = argX m c (ix3 r 0 ⟨32 * g.val + j.val, by omega⟩) := by
  entry_read
  pointwise
  exact congrArg (fun a => argX m c (ix3 r 0 a)) (Fin.ext (by dsimp only; omega))

/-- The reordered activations: place `32 g + 2 j + 1` of a row holds activation `32 g + 16 + j`. -/
theorem entry_odd (c : Dev nD) (r : Fin 192) (g : Fin 416) (j : Fin 16) :
    V m c main_v2 (ix2 r ⟨32 * g.val + (2 * j.val + 1), by omega⟩)
      = argX m c (ix3 r 0 ⟨32 * g.val + (16 + j.val), by omega⟩) := by
  entry_read
  pointwise
  exact congrArg (fun a => argX m c (ix3 r 0 a)) (Fin.ext (by dsimp only; omega))

/-- The index maps of the four windows. -/
theorem index0 : ∀ t : Fin cfg0.N, win0_0.index t = ![0, 0] := (by decide +kernel : ∀ t : Fin grid0.N, win0_0.index t = ![0, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, t.val] := (by decide +kernel : ∀ t : Fin grid0.N, win0_3.index t = ![0, t.val])

/-- The block of activations is the whole array of reordered activations. -/
theorem iblk0_apply (c : Dev nD) (t : Fin cfg0.N) (r : Fin 192) (p : Fin 13312) :
    iblk m c 0 t (ix2 r p) = V m c main_v2 (ix2 r p) := by
  unfold iblk
  show V m c main_v2 ((win0_0.blk t).view.emb (ix2 r p)) = _
  congr 1
  funext a
  apply Fin.ext
  blk_simp [index0]
  match a with
  | ⟨0, _⟩ => simp
  | ⟨1, _⟩ => simp

/-- The block of packed bytes at point `t` is rows `512 t … 512 t + 511` of the packed weights. -/
theorem iblk1_apply (c : Dev nD) (t : Fin cfg0.N) (l : Fin 512) (p : Fin 6656) (o : Fin 16384) (ho : o.val = t.val * 512 + l.val) :
    iblk m c 1 t (ix2 l p) = argW m c (ix2 o p) := by
  unfold iblk
  show V m c main_arg1 ((win0_1.blk t).view.emb (ix2 l p)) = _
  rw [V_main_arg1]
  congr 1
  funext a
  apply Fin.ext
  blk_simp [index1]
  match a with
  | ⟨0, _⟩ => simp [ho]
  | ⟨1, _⟩ => simp

/-- The block of scales at point `t` is rows `512 t … 512 t + 511` of the scales. -/
theorem iblk2_apply (c : Dev nD) (t : Fin cfg0.N) (l : Fin 512) (g : Fin 416) (o : Fin 16384) (ho : o.val = t.val * 512 + l.val) :
    iblk m c 2 t (ix2 l g) = argS m c (ix2 o g) := by
  unfold iblk
  show V m c main_arg2 ((win0_2.blk t).view.emb (ix2 l g)) = _
  rw [V_main_arg2]
  congr 1
  funext a
  apply Fin.ext
  blk_simp [index2]
  match a with
  | ⟨0, _⟩ => simp [ho]
  | ⟨1, _⟩ => simp

/-- An even summand at point `t`, in terms of the arguments. -/
theorem summand_even (c : Dev nD) (t : Fin cfg0.N) (r : Fin 192) (l : Fin 512) (o : Fin 16384) (ho : o.val = t.val * 512 + l.val)
    (g : Fin 416) (j : Fin 16) :
    summand (iblk m c 0 t) (iblk m c 1 t) (iblk m c 2 t) r l ⟨32 * g.val + 2 * j.val, by omega⟩
      = argX m c (ix3 r 0 ⟨32 * g.val + j.val, by omega⟩)
        * (((nib (argW m c (ix2 o ⟨16 * g.val + j.val, by omega⟩)) 0 : ℝ) : EReal)
          * argS m c (ix2 o g)) := by
  unfold summand
  rw [iblk0_apply, iblk1_apply m c t l _ o ho, iblk2_apply m c t l _ o ho, entry_even]
  have e1 : (⟨(32 * g.val + 2 * j.val) / 2, by omega⟩ : Fin 6656) = ⟨16 * g.val + j.val, by omega⟩ := Fin.ext (by dsimp only; omega)
  have e2 : (⟨(32 * g.val + 2 * j.val) / 32, by omega⟩ : Fin 416) = g := Fin.ext (by dsimp only; omega)
  have e3 : (32 * g.val + 2 * j.val) % 2 = 0 := by omega
  dsimp only
  rw [e1, e2, e3]

/-- An odd summand at point `t`, in terms of the arguments. -/
theorem summand_odd (c : Dev nD) (t : Fin cfg0.N) (r : Fin 192) (l : Fin 512) (o : Fin 16384) (ho : o.val = t.val * 512 + l.val)
    (g : Fin 416) (j : Fin 16) :
    summand (iblk m c 0 t) (iblk m c 1 t) (iblk m c 2 t) r l ⟨32 * g.val + (2 * j.val + 1), by omega⟩
      = argX m c (ix3 r 0 ⟨32 * g.val + (16 + j.val), by omega⟩)
        * (((nib (argW m c (ix2 o ⟨16 * g.val + j.val, by omega⟩)) 1 : ℝ) : EReal)
          * argS m c (ix2 o g)) := by
  unfold summand
  rw [iblk0_apply, iblk1_apply m c t l _ o ho, iblk2_apply m c t l _ o ho, entry_odd]
  have e1 : (⟨(32 * g.val + (2 * j.val + 1)) / 2, by omega⟩ : Fin 6656) = ⟨16 * g.val + j.val, by omega⟩ := Fin.ext (by dsimp only; omega)
  have e2 : (⟨(32 * g.val + (2 * j.val + 1)) / 32, by omega⟩ : Fin 416) = g := Fin.ext (by dsimp only; omega)
  have e3 : (32 * g.val + (2 * j.val + 1)) % 2 = 1 := by omega
  dsimp only
  rw [e1, e2, e3]

/-- Element `(r, l)` of the block that point `t` writes is entry `(r, 512 t + l)` of the product. -/
theorem outs_apply (c : Dev nD) (t : Fin cfg0.N) (r : Fin 192) (l : Fin 512) (o : Fin 16384) (ho : o.val = t.val * 512 + l.val) :
    (outsAt0 m c t (ix2 r l) : EReal) = Cert.Spec.out (argX m c) (argW m c)
        (argS m c) r o := by
  unfold outsAt0
  refine (block_apply _ _ _ _ _ _ _ _ _ _ _ _ _ _ _ r l).trans ?_
  simp only [summand_even m c t r l o ho, summand_odd m c t r l o ho]
  rfl

/-- The product, as the array of results. -/
def result (c : Dev nD) : S192x16384.Idx → EReal := fun i =>
  Cert.Spec.out (argX m c) (argW m c)
    (argS m c) (i 0) (i 1)

/-- The same for any index of the block and any index of the result at the block's place. -/
theorem outs_eq (c : Dev nD) (t : Fin cfg0.N) (y : S192x512.Idx) (i : S192x16384.Idx) (h0 : (i 0).val = (y 0).val)
    (h1 : (i 1).val = t.val * 512 + (y 1).val) : (outsAt0 m c t y : EReal) = result m c i := by
  obtain ⟨r, l, rfl⟩ : ∃ r l, y = ix2 r l := ⟨y 0, y 1, by funext a; match a with | ⟨0, _⟩ => rfl | ⟨1, _⟩ => rfl⟩
  obtain ⟨r', o, rfl⟩ : ∃ r' o, i = ix2 r' o := ⟨i 0, i 1, by funext a; match a with | ⟨0, _⟩ => rfl | ⟨1, _⟩ => rfl⟩
  obtain rfl : r' = r := Fin.ext h0
  exact outs_apply m c t r' l o h1

/-- After the run the result array holds the product with the 4-bit weights. -/
theorem final (c : Dev nD) : (dats (F := Ideal) m 0 c).arrAt 3 cfg0.N = result m c := by
  refine (dats m 0 c).arrAt_eq_of_covers 3 _ (by decide +kernel) fun t hf y => ?_
  rw [after0_3]
  have h0 : ((win0_3.blk t).view.emb y 0).val = (y 0).val := by
    blk_simp [index3]
  have h1 : ((win0_3.blk t).view.emb y 1).val = t.val * 512 + (y 1).val := by
    blk_simp [index3]
  have h := outs_eq m c t y ((win0_3.blk t).view.emb y) h0 h1
  blk_simp
  exact h

end Cert.KernelIdeal.Tile

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Ref
public import proofs.«01_k».proof.Proof.Block
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's run: the result array holds the product with the 4-bit weights, the arguments are unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v3) = Cert.KernelIdeal.Tile.result m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono
    (fun _ h c => ⟨(h c).1.trans (Cert.KernelIdeal.Tile.final m c), (h c).2⟩)
    (Cert.KernelIdeal.Value.run_blocks (F := Ideal) m g)

/-- The reference's array, index by index, is the product with the 4-bit weights. -/
theorem ref_eq (x : FVec Ideal Cert.ReferenceIdeal.S192x1x13312 .bf16) (w : Vec Ideal Cert.ReferenceIdeal.S16384x6656 .i8)
    (s : FVec Ideal Cert.ReferenceIdeal.S16384x416 .bf16) :
    Cert.ReferenceIdeal.Value.ref x w s = fun i => Cert.Spec.out x w s (i 0) (i 1) := by
  funext i
  obtain ⟨r, o, rfl⟩ : ∃ r o, i = ix2 r o := ⟨i 0, i 1, by funext a; match a with | ⟨0, _⟩ => rfl | ⟨1, _⟩ => rfl⟩
  exact Cert.ReferenceIdeal.Value.ref_apply x w s r o

/-- Kernel and reference end with the same array. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => Cert.KernelIdeal.Tile.result m c, kernel_run m g, ?_⟩
  refine (θ_run Cert.ReferenceIdeal.defs _ _).mono (fun _ h c => ⟨(h c).1.trans ?_, (h c).2⟩)
    (Cert.ReferenceIdeal.Value.run (F := Ideal) m' g')
  rw [(hm c).1, (hm c).2.1, (hm c).2.2]
  exact ref_eq _ _ _

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run Cert.ReferenceIdeal.defs _ _).mono (fun r h => ⟨fun c => (h c).2, sem_eq_zero_of_no_sems (by decide) r.2⟩) (Cert.ReferenceIdeal.Value.run (F := Ideal) m ρ),
  ⟨IdealRules.bf16_pair.statement _ _, IdealRules.bf16_pair.statement _ _⟩, algebraic⟩

end Cert.Proof

end
